-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144 : Shape := ⟨1, ![262144]⟩
abbrev S_ : Shape := ⟨0, ![]⟩
abbrev S262144x1 : Shape := ⟨2, ![262144, 1]⟩
abbrev S2048x128 : Shape := ⟨2, ![2048, 128]⟩
abbrev S1x1 : Shape := ⟨2, ![1, 1]⟩
abbrev S128x128 : Shape := ⟨2, ![128, 128]⟩
abbrev S2048x1 : Shape := ⟨2, ![2048, 1]⟩
abbrev S2048x2048 : Shape := ⟨2, ![2048, 2048]⟩
abbrev S1x2048x128 : Shape := ⟨3, ![1, 2048, 128]⟩
abbrev S1 : Shape := ⟨1, ![1]⟩
abbrev S1x1x1 : Shape := ⟨3, ![1, 1, 1]⟩
abbrev S2048x127 : Shape := ⟨2, ![2048, 127]⟩
abbrev S2047x1 : Shape := ⟨2, ![2047, 1]⟩

abbrev nBuf : Space → Nat
  | .hbm => 39
  | .vmem => 3
  | .smem => 0
  | _ => 0

abbrev bufTy : (tb : Table) → Fin (tcTables nBuf tb) → BufTy
  | .hbm, ⟨0, _⟩ => ⟨S262144, .f32⟩
  | .hbm, ⟨1, _⟩ => ⟨S262144, .i32⟩
  | .hbm, ⟨2, _⟩ => ⟨S262144, .f32⟩
  | .hbm, ⟨3, _⟩ => ⟨S_, .f32⟩
  | .hbm, ⟨4, _⟩ => ⟨S262144, .f32⟩
  | .hbm, ⟨5, _⟩ => ⟨S262144, .f32⟩
  | .hbm, ⟨6, _⟩ => ⟨S_, .f32⟩
  | .hbm, ⟨7, _⟩ => ⟨S262144, .f32⟩
  | .hbm, ⟨8, _⟩ => ⟨S262144, .f32⟩
  | .hbm, ⟨9, _⟩ => ⟨S262144, .f32⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S262144, .f32⟩
  | .hbm, ⟨14, _⟩ => ⟨S262144, .i32⟩
  | .hbm, ⟨15, _⟩ => ⟨S262144, .f32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144, .f32⟩
  | .hbm, ⟨26, _⟩ => ⟨S2048x128, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .f32⟩
  | .hbm, ⟨36, _⟩ => ⟨S2048x128, .f32⟩
  | .hbm, ⟨37, _⟩ => ⟨S1x1, .f32⟩
  | .hbm, ⟨38, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1x1, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S262144 : Shape := ⟨1, ![262144]⟩
abbrev S_ : Shape := ⟨0, ![]⟩
abbrev S262144x1 : Shape := ⟨2, ![262144, 1]⟩
abbrev S262143 : Shape := ⟨1, ![262143]⟩
abbrev S1 : Shape := ⟨1, ![1]⟩

abbrev nBuf : Space → Nat
  | .hbm => 66
  | .vmem => 0
  | .smem => 0
  | _ => 0

abbrev bufTy : (tb : Table) → Fin (tcTables nBuf tb) → BufTy
  | .hbm, ⟨0, _⟩ => ⟨S262144, .f32⟩
  | .hbm, ⟨1, _⟩ => ⟨S262144, .i32⟩
  | .hbm, ⟨2, _⟩ => ⟨S262144, .f32⟩
  | .hbm, ⟨3, _⟩ => ⟨S_, .f32⟩
  | .hbm, ⟨4, _⟩ => ⟨S262144, .f32⟩
  | .hbm, ⟨5, _⟩ => ⟨S262144, .f32⟩
  | .hbm, ⟨6, _⟩ => ⟨S_, .f32⟩
  | .hbm, ⟨7, _⟩ => ⟨S262144, .f32⟩
  | .hbm, ⟨8, _⟩ => ⟨S262144, .f32⟩
  | .hbm, ⟨9, _⟩ => ⟨S262144, .f32⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S262144, .f32⟩
  | .hbm, ⟨14, _⟩ => ⟨S262144, .i32⟩
  | .hbm, ⟨15, _⟩ => ⟨S262144, .f32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S_, .f32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S262144, .f32⟩
  | .hbm, ⟨50, _⟩ => ⟨S262144, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S262143, .f32⟩
  | .hbm, ⟨55, _⟩ => ⟨S262143, .f32⟩
  | .hbm, ⟨56, _⟩ => ⟨S262143, .f32⟩
  | .hbm, ⟨57, _⟩ => ⟨S_, .i32⟩
  | .hbm, ⟨58, _⟩ => ⟨S1, .i32⟩
  | .hbm, ⟨59, _⟩ => ⟨S262144, .f32⟩
  | .hbm, ⟨60, _⟩ => ⟨S_, .f32⟩
  | .hbm, ⟨61, _⟩ => ⟨S262144, .f32⟩
  | .hbm, ⟨62, _⟩ => ⟨S262144, .f32⟩
  | .hbm, ⟨63, _⟩ => ⟨S262144, .f32⟩
  | .hbm, ⟨64, _⟩ => ⟨S_, .f32⟩
  | .hbm, ⟨65, _⟩ => ⟨S_, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_call1_call0_cst : Ref sig .tc := ⟨.hbm, 37, rfl⟩
abbrev main_call1_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_call2_call0_cst : Ref sig .tc := ⟨.hbm, 45, rfl⟩
abbrev main_call2_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_call3_cst : Ref sig .tc := ⟨.hbm, 60, rfl⟩
abbrev main_call3_v0 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Lovasz.Sums.lean ====
/-
The binary Lovasz hinge loss of 262144 sorted entries, as plain sums of extended reals, and the two ways of
counting that the programs use: a running sum taken row by row over a 2048 by 128 table against one taken along
the whole vector, and the number of zero labels up to a position against that position less the labels up to it.
-/
module

public import Idealize.ShloMosaic.PureOps.Ideal
public import Idealize.ShloMosaic.Lib.Pointwise.Sums

@[expose] public section

noncomputable section

namespace Cert.Lovasz

open Idealize.ShloMosaic

/-- The position in the vector of entry `l` of row `r` of the table: rows of 128 laid end to end. -/
def flat (r : Fin 2048) (l : Fin 128) : Fin 262144 := ⟨r.val * 128 + l.val, by have := r.isLt; have := l.isLt; omega⟩

/-- The sum of the entries up to and including position `p`. -/
def upTo (x : Fin 262144 → EReal) (p : Fin 262144) : EReal := ∑ i, if i ≤ p then x i else 0

/-- The Jaccard index's complement at every position: one less the labels still to come over the union so far. -/
def jac (g : Fin 262144 → EReal) (p : Fin 262144) : EReal :=
  1 - Ideal.div ((∑ i, g i) - upTo g p) ((∑ i, g i) + upTo (fun i => 1 - g i) p)

/-- The step of a sequence at every position: the entry itself at the first, the entry less the one before elsewhere. -/
def steps (f : Fin 262144 → EReal) (p : Fin 262144) : EReal :=
  if p.val = 0 then f p else f p - f ⟨p.val - 1, by have := p.isLt; omega⟩

/-- The loss: positive parts of the sorted errors, each weighted by the step of the Jaccard complement there. -/
def loss (e g : Fin 262144 → EReal) : EReal := ∑ p, max (e p) 0 * steps (jac g) p

/-- A sum over the vector is the sum over the table's rows of the sums of their entries. -/
theorem sum_flat {M : Type} [AddCommMonoid M] (x : Fin 262144 → M) : ∑ i, x i = ∑ r : Fin 2048, ∑ l : Fin 128, x (flat r l) :=
  Fin.sum_univ_tiles 2048 128 (by norm_num) x

/-- The running sum at entry `l` of row `r`: the row's entries up to `l`, and the whole rows before. -/
theorem upTo_flat (x : Fin 262144 → EReal) (r : Fin 2048) (l : Fin 128) :
    upTo x (flat r l) = (∑ k : Fin 128, if k ≤ l then x (flat r k) else 0) + ∑ q : Fin 2048, if q < r then ∑ k : Fin 128, x (flat q k) else 0 := by
  unfold upTo
  rw [sum_flat]
  have row : ∀ q : Fin 2048, (∑ k : Fin 128, if flat q k ≤ flat r l then x (flat q k) else 0)
      = (if q = r then ∑ k : Fin 128, (if k ≤ l then x (flat r k) else 0) else 0) + (if q < r then ∑ k : Fin 128, x (flat q k) else 0) := by
    intro q
    rcases lt_trichotomy q r with h | h | h
    · rw [if_neg (ne_of_lt h), if_pos h, zero_add]
      refine Finset.sum_congr rfl fun k _ => if_pos ?_
      have := k.isLt
      show q.val * 128 + k.val ≤ r.val * 128 + l.val
      have : q.val < r.val := h
      omega
    · subst h
      rw [if_pos rfl, if_neg (lt_irrefl _), add_zero]
      refine Finset.sum_congr rfl fun k _ => if_congr ?_ rfl rfl
      show q.val * 128 + k.val ≤ q.val * 128 + l.val ↔ k.val ≤ l.val
      omega
    · rw [if_neg (ne_of_gt h), if_neg (not_lt.2 h.le), add_zero]
      refine Finset.sum_eq_zero fun k _ => if_neg ?_
      have := l.isLt
      show ¬ q.val * 128 + k.val ≤ r.val * 128 + l.val
      have : r.val < q.val := h
      omega
  rw [Finset.sum_congr rfl fun q _ => row q, Finset.sum_add_distrib, Finset.sum_ite_eq' Finset.univ r, if_pos (Finset.mem_univ r)]

/-- The extended real of a finite sum of reals is the sum of their extended reals. -/
theorem coe_sum {ι : Type} (s : Finset ι) (a : ι → ℝ) : ((∑ i ∈ s, a i : ℝ) : EReal) = ∑ i ∈ s, (a i : EReal) := by
  classical
  induction s using Finset.induction_on with
  | empty => rfl
  | insert i s hi ih => rw [Finset.sum_insert hi, Finset.sum_insert hi, EReal.coe_add, ih]

/-- A running sum of reals is a real. -/
theorem upTo_coe (a : Fin 262144 → ℝ) (p : Fin 262144) :
    upTo (fun i => (a i : EReal)) p = ((∑ i, if i ≤ p then a i else 0 : ℝ) : EReal) := by
  rw [coe_sum]
  exact Finset.sum_congr rfl fun i _ => by split <;> simp

/-- There are `p + 1` positions up to and including position `p`. -/
theorem count_upTo {n : ℕ} (p : Fin n) : (∑ i : Fin n, if i ≤ p then (1 : ℝ) else 0) = ((p.val + 1 : ℕ) : ℝ) := by
  rw [Finset.sum_boole, show (Finset.univ.filter fun i : Fin n => i ≤ p) = Finset.Iic p from by ext i; simp, Fin.card_Iic]

/-- Where every label is a real, the labels' complements up to a position are the number of positions less the labels. -/
theorem union_eq (g : Fin 262144 → EReal) (a : Fin 262144 → ℝ) (hg : ∀ i, g i = (a i : EReal)) (p : Fin 262144) :
    ((∑ i, g i) + (((p.val + 1 : ℕ) : ℝ) : EReal)) - upTo g p = (∑ i, g i) + upTo (fun i => 1 - g i) p := by
  obtain rfl : g = fun i => (a i : EReal) := funext hg
  have h1 : (fun i => (1 : EReal) - (a i : EReal)) = fun i => ((1 - a i : ℝ) : EReal) := by
    funext i; rw [EReal.coe_sub]; rfl
  rw [h1, upTo_coe, upTo_coe, ← coe_sum, ← EReal.coe_add, ← EReal.coe_add, ← EReal.coe_sub]
  refine congrArg _ ?_
  have h2 : (∑ i : Fin 262144, if i ≤ p then 1 - a i else 0) = (∑ i, if i ≤ p then (1 : ℝ) else 0) - ∑ i, if i ≤ p then a i else 0 := by
    rw [← Finset.sum_sub_distrib]
    exact Finset.sum_congr rfl fun i _ => by split <;> simp
  rw [h2, count_upTo]
  exact add_sub_assoc _ _ _

end Cert.Lovasz
-- ==== Proof.Lovasz.Block.lean ====
/-
What the kernel's body computes from its two blocks, read entry by entry at exact values: with the sorted errors and
labels laid in a 2048 by 128 table, the number it stores is the loss of the two vectors.
-/
module

public import proofs.«01_k».proof.Proof.Lovasz.Sums
public import proofs.«01_k».proof.Proof.Gen.KernelIdeal.Skeleton
public import Idealize.ShloMosaic.Lib.ValueIdx
public import Idealize.ShloMosaic.Lib.IdealHost
public import Idealize.ShloMosaic.Lib.MatmulPlain
public import Idealize.ShloMosaic.Lib.WordCmp
public import Idealize.ShloMosaic.Lib.Pointwise.Reshape
public import Idealize.ShloMosaic.Lib.Pointwise.SelectCore
public import Idealize.ShloMosaic.PureOps.Ideal.Laws

@[expose] public section

noncomputable section

namespace Cert.Lovasz

open Idealize.ShloMosaic hiding ix0 ix1 ix2 ix3 sum_idx1 sum_idx2 eq_ix1 eq_ix2
open Idealize.ShloMosaic.ValueIdx Cert.KernelIdeal Cert.KernelIdeal.Gen

/-- The body's table with a one where the row's number is at most the column's, and a zero elsewhere. -/
def atMost : FVec Ideal S128x128 .f32 :=
  sitofp .f32 (extui 32 (cmpi .sle (iota .tc S128x128 32 [0] iota_S128x128_d0_w32) (iota .tc S128x128 32 [1] iota_S128x128_d1_w32)) natLt_1_32)

/-- The body's table with a one where the row's number is more than the column's, and a zero elsewhere. -/
def moreThan : FVec Ideal S2048x2048 .f32 :=
  sitofp .f32 (extui 32 (cmpi .sgt (iota .tc S2048x2048 32 [0] iota_S2048x2048_d0_w32) (iota .tc S2048x2048 32 [1] iota_S2048x2048_d1_w32)) natLt_1_32)

/-- The running sums inside each row. -/
def rowRuns (X : FVec Ideal S2048x128 .f32) : FVec Ideal S2048x128 .f32 :=
  matmul dot_S2048x128_S128x128_S2048x128_1_0_0_1_n_n none X atMost (constant S2048x128 .f32 0x00000000#32)

/-- The sums of the rows before each row. -/
def rowsBefore (X : FVec Ideal S2048x128 .f32) : FVec Ideal S2048x1 .f32 :=
  matmul dot_S2048x2048_S2048x1_S2048x1_1_0_0_1_n_n none moreThan
    (extractStridedSlice S2048x1 ![0, 127] (rowRuns X) slices_S2048x128_o0_127_S2048x1) (constant S2048x1 .f32 0x00000000#32)

/-- The running sums along the whole table. -/
def runs (X : FVec Ideal S2048x128 .f32) : FVec Ideal S2048x128 .f32 :=
  addf (rowRuns X) (broadcastTo S2048x128 (rowsBefore X) broadcasts_S2048x1_S2048x128)

/-- The sum of a whole table, as the body takes it. -/
def total (X : FVec Ideal S2048x128 .f32) : Ideal .f32 :=
  extractAt ![0, 0, 0] (shapeCast S1x1x1 (multiReduction .add [1, 2] S1 (shapeCast S1x2048x128 X shapeCasts_S2048x128_S1x2048x128)
    0x00000000#32 reduces_S1x2048x128_S1 (.inl rfl) rfl) shapeCasts_S1_S1x1x1) inpos_S1x1x1_p0_0_0

/-- A comparison's bit widened and turned into a number: one where it holds, zero elsewhere. -/
theorem bit_value (p : Prop) [Decidable p] :
    (FloatOps.sitofp .f32 ((BitVec.ofBool (decide p)).setWidth 32) : Ideal .f32) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]
    simp
  · rw [if_neg h, decide_eq_false h]
    show (((BitVec.setWidth 32 (BitVec.ofBool false)).toInt : ℝ) : EReal) = 0
    simp

/-- `atMost` at row `k`, column `l`. -/
theorem atMost_at (k l : Fin 128) : atMost (ix2 k l) = if k ≤ l then 1 else 0 := by
  have hk := k.isLt
  have hl := l.isLt
  have e : IntOp.cmpi .sle (BitVec.ofNat 32 (0 * 128 + k.val)) (BitVec.ofNat 32 (0 * 128 + l.val)) = BitVec.ofBool (decide (k ≤ l)) := by
    rw [WordCmp.cmpi_sle_ofNat (by omega) (by omega)]
    exact congrArg BitVec.ofBool (decide_eq_decide.2 (by rw [Fin.le_def]; omega))
  show (FloatOps.sitofp .f32 ((IntOp.cmpi .sle (BitVec.ofNat 32 (0 * 128 + k.val)) (BitVec.ofNat 32 (0 * 128 + l.val))).setWidth 32) : Ideal .f32) = _
  rw [e]
  exact bit_value _

/-- `moreThan` at row `r`, column `q`. -/
theorem moreThan_at (r q : Fin 2048) : moreThan (ix2 r q) = if q < r then 1 else 0 := by
  have hk := r.isLt
  have hl := q.isLt
  have e : IntOp.cmpi .sgt (BitVec.ofNat 32 (0 * 2048 + r.val)) (BitVec.ofNat 32 (0 * 2048 + q.val)) = BitVec.ofBool (decide (q < r)) := by
    rw [WordCmp.cmpi_sgt_ofNat (by omega) (by omega)]
    exact congrArg BitVec.ofBool (decide_eq_decide.2 (by rw [Fin.lt_def]; omega))
  show (FloatOps.sitofp .f32 ((IntOp.cmpi .sgt (BitVec.ofNat 32 (0 * 2048 + r.val)) (BitVec.ofNat 32 (0 * 2048 + q.val))).setWidth 32) : Ideal .f32) = _
  rw [e]
  exact bit_value _

/-- The running sum inside row `r` at column `l`. -/
theorem rowRuns_at (X : FVec Ideal S2048x128 .f32) (r : Fin 2048) (l : Fin 128) :
    rowRuns X (ix2 r l) = ∑ k : Fin 128, if k ≤ l then X (ix2 r k) else 0 := by
  have h := Ideal.matmul_plain_apply (M := 2048) (K := 128) (N := 128) none X atMost (constant S2048x128 .f32 0x00000000#32) r l
  refine (Eq.trans rfl h).trans ?_
  rw [constant_apply, Ideal.ofBits_zero_f32, zero_add]
  refine Finset.sum_congr rfl fun k _ => ?_
  rw [atMost_at]
  split
  · exact mul_one _
  · exact mul_zero _

/-- The sum of the rows before row `r`. -/
theorem rowsBefore_at (X : FVec Ideal S2048x128 .f32) (r : Fin 2048) :
    rowsBefore X (ix2 r (0 : Fin 1)) = ∑ q : Fin 2048, if q < r then ∑ k : Fin 128, X (ix2 q k) else 0 := by
  have h := Ideal.matmul_plain_apply (M := 2048) (K := 2048) (N := 1) none moreThan
    (extractStridedSlice S2048x1 ![0, 127] (rowRuns X) slices_S2048x128_o0_127_S2048x1) (constant S2048x1 .f32 0x00000000#32) r 0
  refine (Eq.trans rfl h).trans ?_
  rw [constant_apply, Ideal.ofBits_zero_f32, zero_add]
  refine Finset.sum_congr rfl fun q _ => ?_
  have e : extractStridedSlice S2048x1 ![0, 127] (rowRuns X) slices_S2048x128_o0_127_S2048x1 (ix2 q (0 : Fin 1)) = rowRuns X (ix2 q (127 : Fin 128)) := by
    refine congrArg (rowRuns X) (funext fun a => Fin.ext ?_)
    match a with
    | ⟨0, _⟩ => exact Nat.zero_add _
    | ⟨1, _⟩ => rfl
  rw [moreThan_at, e, rowRuns_at]
  split
  · rw [one_mul]
    exact Finset.sum_congr rfl fun k _ => if_pos (Fin.le_def.2 (by have := k.isLt; show k.val ≤ 127; omega))
  · exact zero_mul _

/-- The running sum along the whole table is the one along the vector laid in it. -/
theorem runs_at (X : FVec Ideal S2048x128 .f32) (x : Fin 262144 → EReal) (hX : ∀ r l, X (ix2 r l) = x (flat r l)) (r : Fin 2048) (l : Fin 128) :
    runs X (ix2 r l) = upTo x (flat r l) := by
  have e : broadcastTo S2048x128 (rowsBefore X) broadcasts_S2048x1_S2048x128 (ix2 r l) = rowsBefore X (ix2 r (0 : Fin 1)) := by
    refine congrArg (rowsBefore X) (funext fun a => Fin.ext ?_)
    match a with
    | ⟨0, _⟩ => rfl
    | ⟨1, _⟩ => rfl
  rw [upTo_flat]
  show rowRuns X (ix2 r l) + broadcastTo S2048x128 (rowsBefore X) broadcasts_S2048x1_S2048x128 (ix2 r l) = _
  rw [e, rowRuns_at, rowsBefore_at]
  simp only [hX]

/-- The body's sum of a table is the sum of the vector laid in it. -/
theorem total_eq (X : FVec Ideal S2048x128 .f32) (x : Fin 262144 → EReal) (hX : ∀ r l, X (ix2 r l) = x (flat r l)) : total X = ∑ i, x i := by
  have h : total X = ∑ i : S1x2048x128.Idx, shapeCast S1x2048x128 X shapeCasts_S2048x128_S1x2048x128 i :=
    Ideal.reduceAdd_total reduces_S1x2048x128_S1 (fun b => by fin_cases b; rfl) _ _
  rw [h, sum_flat]
  show ∑ i : S1x2048x128.Idx, X (Shape.reshapeEquiv _ i) = _
  refine (Equiv.sum_comp (Shape.reshapeEquiv shapeCasts_S2048x128_S1x2048x128) X).trans ((sum_idx2 X).trans ?_)
  exact Finset.sum_congr rfl fun r _ => Finset.sum_congr rfl fun l _ => hX r l

/-- The body's position numbers, counted from one. -/
def places : FVec Ideal S2048x128 .f32 :=
  sitofp .f32 (addi (addi (muli (iota .tc S2048x128 32 [0] iota_S2048x128_d0_w32) (broadcast S2048x128 128#32))
    (iota .tc S2048x128 32 [1] iota_S2048x128_d1_w32)) (broadcast S2048x128 1#32))

/-- The number at entry `l` of row `r` is its position in the vector and one more. -/
theorem places_at (r : Fin 2048) (l : Fin 128) : places (ix2 r l) = ((((flat r l).val + 1 : ℕ) : ℝ) : EReal) := by
  have hr := r.isLt
  have hl := l.isLt
  have e : IntOp.addi (IntOp.addi (IntOp.muli (BitVec.ofNat 32 (0 * 2048 + r.val)) (BitVec.ofNat 32 128)) (BitVec.ofNat 32 (0 * 128 + l.val))) (BitVec.ofNat 32 1)
      = BitVec.ofNat 32 ((flat r l).val + 1) := by
    rw [WordCmp.muli_ofNat, WordCmp.addi_ofNat, WordCmp.addi_ofNat]
    refine congrArg (BitVec.ofNat 32) ?_
    show (0 * 2048 + r.val) * 128 + (0 * 128 + l.val) + 1 = r.val * 128 + l.val + 1
    omega
  show (((IntOp.addi (IntOp.addi (IntOp.muli (BitVec.ofNat 32 (0 * 2048 + r.val)) (BitVec.ofNat 32 128)) (BitVec.ofNat 32 (0 * 128 + l.val))) (BitVec.ofNat 32 1)).toInt : ℝ) : EReal) = _
  rw [e, WordCmp.toInt_ofNat_of_lt (by show r.val * 128 + l.val + 1 < 2 ^ (32 - 1); omega), Int.cast_natCast]

/-- The body's Jaccard complement, operation by operation. -/
theorem complement_form (X : FVec Ideal S2048x128 .f32) :
    k0_pay3 (F := Ideal) X = subf (broadcast S2048x128 (Scalar.ofBits .f32 0x3F800000#32))
      (divf (subf (broadcast S2048x128 (total (shapeCast S2048x128 X shapeCasts_S2048x128_S2048x128))) (runs (shapeCast S2048x128 X shapeCasts_S2048x128_S2048x128)))
        (subf (addf (broadcast S2048x128 (total (shapeCast S2048x128 X shapeCasts_S2048x128_S2048x128))) places)
          (runs (shapeCast S2048x128 X shapeCasts_S2048x128_S2048x128)))) := rfl

/-- The body's Jaccard complement at an entry, in the table's terms. -/
theorem complement_eq (X : FVec Ideal S2048x128 .f32) (j : S2048x128.Idx) :
    k0_pay3 (F := Ideal) X j = 1 - Ideal.div (total X - runs X j) (total X + places j - runs X j) := by
  have e : shapeCast S2048x128 X shapeCasts_S2048x128_S2048x128 = X := shapeCast_id X _
  rw [complement_form, e]
  show Ideal.ofBits .f32 0x3F800000#32 - Ideal.div (total X - runs X j) (total X + places j - runs X j) = _
  rw [Ideal.ofBits_one_f32]

/-- Where the labels are reals, the body's Jaccard complement at an entry is the vector's at its position. -/
theorem complement_at (X : FVec Ideal S2048x128 .f32) (g : Fin 262144 → EReal) (a : Fin 262144 → ℝ) (hg : ∀ i, g i = (a i : EReal))
    (hX : ∀ r l, X (ix2 r l) = g (flat r l)) (r : Fin 2048) (l : Fin 128) : k0_pay3 (F := Ideal) X (ix2 r l) = jac g (flat r l) := by
  rw [complement_eq, total_eq X g hX, runs_at X g hX, places_at, union_eq g a hg]
  rfl

/-- The complement shifted by one column: zero in the first. -/
theorem shifted_at (X : FVec Ideal S2048x128 .f32) (r : Fin 2048) (l : Fin 128) (h : l.val ≠ 0) :
    k0_pay4 (F := Ideal) X (ix2 r l) = k0_pay3 (F := Ideal) X (ix2 r (⟨l.val - 1, by have := l.isLt; omega⟩ : Fin 128)) := by
  unfold k0_pay4
  rw [concatenate_pair_apply, dif_neg (by show ¬ l.val < 1; omega)]
  refine congrArg (k0_pay3 (F := Ideal) X) (funext fun a => Fin.ext ?_)
  match a with
  | ⟨0, _⟩ => exact Nat.zero_add _
  | ⟨1, _⟩ => exact Nat.zero_add _

/-- The last column's complements moved down by one row, below the first. -/
theorem carried_at (X : FVec Ideal S2048x128 .f32) (r : Fin 2048) (h : r.val ≠ 0) :
    k0_pay5 (F := Ideal) X (ix2 r (0 : Fin 1)) = k0_pay3 (F := Ideal) X (ix2 (⟨r.val - 1, by have := r.isLt; omega⟩ : Fin 2048) (127 : Fin 128)) := by
  unfold k0_pay5
  rw [concatenate_pair_apply, dif_neg (by show ¬ r.val < 1; omega)]
  refine congrArg (k0_pay3 (F := Ideal) X) (funext fun a => Fin.ext ?_)
  match a with
  | ⟨0, _⟩ => show 0 + (0 + (r.val - 1)) = r.val - 1; omega
  | ⟨1, _⟩ => rfl

/-- The first row has a zero there. -/
theorem carried_first (X : FVec Ideal S2048x128 .f32) (r : Fin 2048) (h : r.val = 0) : k0_pay5 (F := Ideal) X (ix2 r (0 : Fin 1)) = 0 := by
  unfold k0_pay5
  rw [concatenate_pair_apply, dif_pos (by show r.val < 1; omega)]
  exact Ideal.ofBits_zero_f32

/-- The entry before each one, as the body selects it. -/
def before (X : FVec Ideal S2048x128 .f32) : FVec Ideal S2048x128 .f32 :=
  select (cmpi .eq (iota .tc S2048x128 32 [1] iota_S2048x128_d1_w32) (broadcast S2048x128 0#32))
    (broadcastTo S2048x128 (shapeCast S2048x1 (k0_pay5 (F := Ideal) X) shapeCasts_S2048x1_S2048x1) broadcasts_S2048x1_S2048x128) (k0_pay4 (F := Ideal) X)

/-- In the first column it is the carried entry, elsewhere the shifted one. -/
theorem before_at (X : FVec Ideal S2048x128 .f32) (r : Fin 2048) (l : Fin 128) :
    before X (ix2 r l) = if l.val = 0 then k0_pay5 (F := Ideal) X (ix2 r (0 : Fin 1)) else k0_pay4 (F := Ideal) X (ix2 r l) := by
  have hl := l.isLt
  have e : broadcastTo S2048x128 (shapeCast S2048x1 (k0_pay5 (F := Ideal) X) shapeCasts_S2048x1_S2048x1) broadcasts_S2048x1_S2048x128 (ix2 r l)
      = k0_pay5 (F := Ideal) X (ix2 r (0 : Fin 1)) := by
    rw [shapeCast_id]
    refine congrArg (k0_pay5 (F := Ideal) X) (funext fun a => Fin.ext ?_)
    match a with
    | ⟨0, _⟩ => rfl
    | ⟨1, _⟩ => rfl
  have c : IntOp.cmpi .eq (BitVec.ofNat 32 (0 * 128 + l.val)) (BitVec.ofNat 32 0) = BitVec.ofBool (decide (l.val = 0)) := by
    rw [WordCmp.cmpi_eq_ofNat (by omega) (by omega)]
    exact congrArg BitVec.ofBool (decide_eq_decide.2 (by omega))
  show Scalar.select (IntOp.cmpi .eq (BitVec.ofNat 32 (0 * 128 + l.val)) (BitVec.ofNat 32 0))
    (broadcastTo S2048x128 (shapeCast S2048x1 (k0_pay5 (F := Ideal) X) shapeCasts_S2048x1_S2048x1) broadcasts_S2048x1_S2048x128 (ix2 r l)) (k0_pay4 (F := Ideal) X (ix2 r l)) = _
  rw [c, e, WordCmp.select_decide]

/-- The body's difference at an entry is the step of the vector's Jaccard complement at its position. -/
theorem difference_at (X : FVec Ideal S2048x128 .f32) (g : Fin 262144 → EReal) (a : Fin 262144 → ℝ) (hg : ∀ i, g i = (a i : EReal))
    (hX : ∀ r l, X (ix2 r l) = g (flat r l)) (r : Fin 2048) (l : Fin 128) :
    k0_pay3 (F := Ideal) X (ix2 r l) - before X (ix2 r l) = steps (jac g) (flat r l) := by
  have hr := r.isLt
  have hl := l.isLt
  rw [before_at, complement_at X g a hg hX]
  unfold steps
  by_cases h : l.val = 0
  · rw [if_pos h]
    by_cases h' : r.val = 0
    · rw [carried_first X r h', if_pos (by show r.val * 128 + l.val = 0; omega)]
      exact sub_zero _
    · rw [carried_at X r h', complement_at X g a hg hX, if_neg (by show ¬ r.val * 128 + l.val = 0; omega)]
      refine congrArg (fun p => jac g (flat r l) - jac g p) (Fin.ext ?_)
      show (r.val - 1) * 128 + 127 = r.val * 128 + l.val - 1
      omega
  · rw [if_neg h, shifted_at X r l h, complement_at X g a hg hX, if_neg (by show ¬ r.val * 128 + l.val = 0; omega)]
    refine congrArg (fun p => jac g (flat r l) - jac g p) (Fin.ext ?_)
    show r.val * 128 + (l.val - 1) = r.val * 128 + l.val - 1
    omega

/-- The body's last stretch, operation by operation. -/
theorem stored_form (E X : FVec Ideal S2048x128 .f32) :
    k0_pay1 (F := Ideal) (k0_pay2 (F := Ideal) E) (k0_pay3 (F := Ideal) X) (k0_pay4 (F := Ideal) X) (k0_pay5 (F := Ideal) X)
        (iota .tc S2048x128 32 [1] iota_S2048x128_d1_w32) 0#32
      = broadcast S1x1 (total (mulf (maximumf (shapeCast S2048x128 E shapeCasts_S2048x128_S2048x128) (broadcast S2048x128 (Scalar.ofBits .f32 0x00000000#32)))
          (subf (k0_pay3 (F := Ideal) X) (before X)))) := rfl

/-- The number the body stores is the loss of the vectors laid in its two tables. -/
theorem stored_eq (E X : FVec Ideal S2048x128 .f32) (e g : Fin 262144 → EReal) (a : Fin 262144 → ℝ) (hg : ∀ i, g i = (a i : EReal))
    (hE : ∀ r l, E (ix2 r l) = e (flat r l)) (hX : ∀ r l, X (ix2 r l) = g (flat r l)) (j : S1x1.Idx) :
    k0_pay1 (F := Ideal) (k0_pay2 (F := Ideal) E) (k0_pay3 (F := Ideal) X) (k0_pay4 (F := Ideal) X) (k0_pay5 (F := Ideal) X) (iota .tc S2048x128 32 [1] iota_S2048x128_d1_w32) 0#32 j = loss e g := by
  rw [stored_form, shapeCast_id]
  rw [broadcast_apply]
  refine total_eq _ (fun p => max (e p) 0 * steps (jac g) p) fun r l => ?_
  show max (E (ix2 r l)) (Ideal.ofBits .f32 0x00000000#32) * (k0_pay3 (F := Ideal) X (ix2 r l) - before X (ix2 r l)) = _
  rw [difference_at X g a hg hX, hE, Ideal.ofBits_zero_f32]

end Cert.Lovasz
-- ==== Proof.Lovasz.Reference.lean ====
/-
The reference's operations read at exact values: its cumulative sums are running sums, its write past the first
entry makes the step of a sequence, and its last sum is the loss of the sorted errors and labels.
-/
module

public import proofs.«01_k».proof.Proof.Lovasz.Block
public import proofs.«01_k».proof.Proof.Gen.ReferenceIdeal.Run
public import Idealize.ShloMosaic.Lib.ValueIdx
public import Idealize.ShloMosaic.Lib.ValueIdxRank1
public import Idealize.ShloMosaic.Lib.IdealHost
public import Idealize.ShloMosaic.Lib.Routing.Ops
public import Idealize.ShloMosaic.Lib.Routing.OpsSet
public import Idealize.ShloMosaic.Lib.Routing.OpsPair
public import Idealize.ShloMosaic.PureOps.Ideal.Laws

@[expose] public section

noncomputable section

namespace Cert.Lovasz

open Idealize.ShloMosaic hiding ix0 ix1 ix2 ix3 sum_idx1 sum_idx2 eq_ix1 eq_ix2
open Idealize.ShloMosaic.ValueIdx Idealize.ShloMosaic.Routing Cert.ReferenceIdeal Cert.ReferenceIdeal.Gen

/-- A left fold that adds a term at every step is its start plus the sum of the terms. -/
theorem foldl_add_terms {ι : Type} (f : ι → EReal) (L : List ι) (a : EReal) : L.foldl (fun r n => r + f n) a = a + (L.map f).sum := by
  induction L generalizing a with
  | nil => exact (add_zero a).symm
  | cons n L ih => rw [List.foldl_cons, ih, List.map_cons, List.sum_cons, add_assoc]

/-- The sum over window positions, each holding the entry it meets or zero, is the sum of the entries up to `j`. -/
theorem sum_met {N M : ℕ} (hN : M + 1 = N) (x : Fin N → EReal) (j : Fin N) :
    (∑ n : Fin N, if h : M ≤ j.val + n.val ∧ j.val + n.val - M < N then x ⟨j.val + n.val - M, h.2⟩ else 0) = ∑ i : Fin N, if i ≤ j then x i else 0 := by
  have hj := j.isLt
  rw [← Finset.sum_filter]
  refine Eq.symm (Finset.sum_bij_ne_zero (fun i hi _ => (⟨i.val + M - j.val, by
    have h : i.val ≤ j.val := (Finset.mem_filter.1 hi).2
    omega⟩ : Fin N)) (fun _ _ _ => Finset.mem_univ _) ?_ ?_ ?_)
  · intro i hi _ i' hi' _ e
    have e' : i.val + M - j.val = i'.val + M - j.val := congrArg Fin.val e
    exact Fin.ext (by omega)
  · intro n _ hn
    by_cases h : M ≤ j.val + n.val ∧ j.val + n.val - M < N
    · rw [dif_pos h] at hn
      have hn' := n.isLt
      refine ⟨⟨j.val + n.val - M, h.2⟩, Finset.mem_filter.2 ⟨Finset.mem_univ _, ?_⟩, hn, Fin.ext ?_⟩
      · show j.val + n.val - M ≤ j.val
        omega
      · show j.val + n.val - M + M - j.val = n.val
        omega
    · exact (hn (dif_neg h)).elim
  · intro i hi _
    have h : i.val ≤ j.val := (Finset.mem_filter.1 hi).2
    have hi' := i.isLt
    rw [dif_pos (by show M ≤ j.val + (i.val + M - j.val) ∧ j.val + (i.val + M - j.val) - M < N; omega)]
    refine congrArg x (Fin.ext ?_)
    show i.val = j.val + (i.val + M - j.val) - M
    omega

/-- A window as long as the vector, padded low by one less, summed from zero: the running sum. -/
theorem window_sum {N M : ℕ} (hN : M + 1 = N) (x : (shape1 N).Idx → EReal)
    (h : (shape1 N).ReduceWindows (![N] : Fin 1 → ℕ) ![1] ![M] ![0] (shape1 N)) (j : Fin N) :
    Ideal.hostReduceWindowAdd (s := shape1 N) ![N] ![1] ![M] ![0] h x 0 (ix1 j) = ∑ i : Fin N, if i ≤ j then x (ix1 i) else 0 := by
  refine Eq.trans ?_ (sum_met hN (fun i => x (ix1 i)) j)
  unfold Ideal.hostReduceWindowAdd Host.reduceWindow
  refine (foldl_add_terms _ _ 0).trans ?_
  rw [zero_add, ← Fin.sum_univ_def]
  refine Fintype.sum_equiv (finCongr (numel1 N)) _ _ fun n => ?_
  have hw : ((shape1 N).rowMajor.symm n 0).val = n.val := by rw [symm1]; rfl
  have hp : (M ≤ j.val + n.val ∧ j.val + n.val - M < N) ↔ ∀ a : Fin 1, (![M] : Fin 1 → ℕ) a ≤ ((ix1 j : (shape1 N).Idx) a).val * (![1] : Fin 1 → ℕ) a + ((shape1 N).rowMajor.symm n a).val
      ∧ ((ix1 j : (shape1 N).Idx) a).val * (![1] : Fin 1 → ℕ) a + ((shape1 N).rowMajor.symm n a).val - (![M] : Fin 1 → ℕ) a < (shape1 N).size a := by
    constructor
    · intro q a
      match a with
      | ⟨0, _⟩ =>
        show M ≤ j.val * 1 + ((shape1 N).rowMajor.symm n 0).val ∧ j.val * 1 + ((shape1 N).rowMajor.symm n 0).val - M < N
        rw [hw, Nat.mul_one]
        exact q
    · intro q
      have q0 : M ≤ j.val * 1 + ((shape1 N).rowMajor.symm n 0).val ∧ j.val * 1 + ((shape1 N).rowMajor.symm n 0).val - M < N := q 0
      rw [hw, Nat.mul_one] at q0
      exact q0
  by_cases q : M ≤ j.val + n.val ∧ j.val + n.val - M < N
  · refine (dif_pos (hp.1 q)).trans (Eq.trans ?_ (dif_pos q).symm)
    refine congrArg x (funext fun a => Fin.ext ?_)
    match a with
    | ⟨0, _⟩ =>
      show j.val * 1 + ((shape1 N).rowMajor.symm n 0).val - M = j.val + n.val - M
      rw [hw, Nat.mul_one]
  · refine (dif_neg fun q' => q (hp.2 q')).trans (Eq.symm (dif_neg ?_))
    exact q

/-- The reference's errors. -/
def errors (x : FVec Ideal S262144 .f32) (t : IVec S262144 32) : FVec Ideal S262144 .f32 :=
  subf (broadcastInDim S262144 ![] bcast_S_S262144 (constant S_ .f32 0x3F800000#32))
    (mulf x (subf (mulf (broadcastInDim S262144 ![] bcast_S_S262144 (constant S_ .f32 0x40000000#32)) (sitofp .f32 t))
      (broadcastInDim S262144 ![] bcast_S_S262144 (constant S_ .f32 0x3F800000#32))))

/-- The order in which the reference takes them: largest error first. -/
def order (x : FVec Ideal S262144 .f32) (t : IVec S262144 32) : IVec S262144 32 :=
  (Host.sort2 S262144 0 comparator_f32_i32_d0 (Host.negf (errors x t)) (iotaInDim S262144 32 0)).2

/-- The order as a column of row numbers, a negative one counted from the end. -/
def picks (x : FVec Ideal S262144 .f32) (t : IVec S262144 32) : IVec S262144x1 32 :=
  broadcastInDim S262144x1 ![0] bcast_S262144_S262144x1_0
    (select (cmpi .slt (order x t) (broadcastInDim S262144 ![] bcast_S_S262144 (constantI S_ 32 0#32)))
      (addi (order x t) (broadcastInDim S262144 ![] bcast_S_S262144 (constantI S_ 32 262144#32))) (order x t))

/-- The errors in that order. -/
def sortedErrors (x : FVec Ideal S262144 .f32) (t : IVec S262144 32) : FVec Ideal S262144 .f32 :=
  Host.gather gather_S262144_S262144x1_S262144_n_0_n_n_0_1_1 (errors x t) (picks x t)

/-- The labels in that order, as numbers. -/
def sortedLabels (x : FVec Ideal S262144 .f32) (t : IVec S262144 32) : FVec Ideal S262144 .f32 :=
  Host.gather gather_S262144_S262144x1_S262144_n_0_n_n_0_1_1 (sitofp .f32 t : FVec Ideal S262144 .f32) (picks x t)

/-- The number of labels, as the reference sums them. -/
def labelSum (g : FVec Ideal S262144 .f32) : FVec Ideal S262144 .f32 :=
  broadcastInDim S262144 ![] bcast_S_S262144 (Host.reduceAdd g (constant S_ .f32 0x00000000#32) reducesTo_S262144_S_d0 h_S_)

/-- A cumulative sum, as the reference takes it. -/
def running (g : FVec Ideal S262144 .f32) : FVec Ideal S262144 .f32 :=
  Host.reduceWindowAdd ![262144] ![1] ![262143] ![0] g (broadcastInDim S_ ![] bcast_S_S_ (constant S_ .f32 0x00000000#32))
    reduceWindows_S262144_S262144_w262144s1p262143_0 h_S_

/-- The reference's Jaccard complement. -/
def refComplement (g : FVec Ideal S262144 .f32) : FVec Ideal S262144 .f32 :=
  subf (broadcastInDim S262144 ![] bcast_S_S262144 (constant S_ .f32 0x3F800000#32))
    (Host.divf (subf (labelSum g) (running g))
      (addf (labelSum g) (running (subf (broadcastInDim S262144 ![] bcast_S_S262144 (constant S_ .f32 0x3F800000#32)) g))))

/-- The reference's steps: the differences of neighbours written over all entries but the first. -/
def refSteps (f : FVec Ideal S262144 .f32) : FVec Ideal S262144 .f32 :=
  Host.scatter scatter_S262144_S1_S262143_0_n_0_0 (fun _ b => b) f (broadcastInDim S1 ![] bcast_S_S1 (constantI S_ 32 1#32))
    (subf (extractStridedSlice S262143 ![1] f slices_S262144_S262143_1) (extractStridedSlice S262143 ![0] f slices_S262144_S262143_0))

/-- The reference's last sum, over sorted errors and labels. -/
def refLoss (e g : FVec Ideal S262144 .f32) : FVec Ideal S_ .f32 :=
  Host.reduceAdd (mulf (maximumf e (broadcastInDim S262144 ![] bcast_S_S262144 (constant S_ .f32 0x00000000#32))) (refSteps (refComplement g)))
    (constant S_ .f32 0x00000000#32) reducesTo_S262144_S_d0 h_S_

/-- What the reference leaves in its result, from its arguments. -/
theorem reference_form (m : (ℓ : Loc nD τ sig) → Buf (Elt Ideal) ℓ) (c : Dev nD) :
    Value.res_main_v43 (F := Ideal) m c
      = refLoss (sortedErrors (m ((c.tc : Thread nD τ).loc main_arg0)) (m ((c.tc : Thread nD τ).loc main_arg1)))
          (sortedLabels (m ((c.tc : Thread nD τ).loc main_arg0)) (m ((c.tc : Thread nD τ).loc main_arg1))) := by
  unfold Value.res_main_v43
  rfl

/-- Every sorted label is a whole number, so a real. -/
theorem sortedLabels_real (x : FVec Ideal S262144 .f32) (t : IVec S262144 32) : ∃ a : Fin 262144 → ℝ, ∀ i, sortedLabels x t (ix1 i) = (a i : EReal) :=
  ⟨fun i => ((t (gather_S262144_S262144x1_S262144_n_0_n_n_0_1_1.operandIdx (ix1 i) (picks x t))).toInt : ℝ), fun _ => rfl⟩

/-- The reference's sum of a whole vector. -/
theorem vector_sum (f : FVec Ideal S262144 .f32) (j : S_.Idx) :
    Host.reduceAdd f (constant S_ .f32 0x00000000#32) reducesTo_S262144_S_d0 h_S_ j = ∑ i : Fin 262144, f (ix1 i) := by
  have h : Host.reduceAdd f (constant S_ .f32 0x00000000#32) reducesTo_S262144_S_d0 h_S_ j = Ideal.ofBits .f32 0x00000000#32 + ∑ i : S262144.Idx, f i :=
    Ideal.hostReduceAdd_total reducesTo_S262144_S_d0 (fun b => b.elim0) f _ j
  rw [h, Ideal.ofBits_zero_f32, zero_add]
  exact (Equiv.sum_comp (idxEquiv1 (n := 262144)).symm f).symm

/-- The reference's cumulative sum at a position. -/
theorem running_at (f : FVec Ideal S262144 .f32) (p : Fin 262144) : running f (ix1 p) = upTo (fun i => f (ix1 i)) p := by
  have z : broadcastInDim S_ ![] bcast_S_S_ (constant (F := Ideal) S_ .f32 0x00000000#32) (Shape.Idx.first h_S_) = (0 : EReal) := Ideal.ofBits_zero_f32
  unfold running Host.reduceWindowAdd
  rw [z]
  exact window_sum (by norm_num) f _ p

/-- The reference's Jaccard complement at a position. -/
theorem refComplement_at (g : FVec Ideal S262144 .f32) (p : Fin 262144) : refComplement g (ix1 p) = jac (fun i => g (ix1 i)) p := by
  have s : labelSum g (ix1 p) = ∑ i : Fin 262144, g (ix1 i) := vector_sum g _
  have c : (fun i : Fin 262144 => subf (broadcastInDim S262144 ![] bcast_S_S262144 (constant S_ .f32 0x3F800000#32)) g (ix1 i)) = fun i => 1 - g (ix1 i) := by
    funext i
    show Ideal.ofBits .f32 0x3F800000#32 - g (ix1 i) = _
    rw [Ideal.ofBits_one_f32]
  unfold refComplement
  rw [subf_apply, hostDivf_apply, subf_apply, addf_apply, broadcastInDim_scalar_apply, constant_apply]
  rw [s, running_at, running_at, c, Ideal.ofBits_one_f32]
  simp only [jac]

/-- Update `k` is written at position `k + 1`. -/
theorem written_at (k : S262143.Idx) (p : Fin 262144) :
    scatter_S262144_S1_S262143_0_n_0_0.resultIdx? k (broadcastInDim S1 ![] bcast_S_S1 (constantI S_ 32 1#32)) = some (ix1 p) ↔ (k 0).val + 1 = p.val := by
  rw [resultIdx?_ix1]
  have hs : scatter_S262144_S1_S262143_0_n_0_0.start k (broadcastInDim S1 ![] bcast_S_S1 (constantI S_ 32 1#32)) 0 = 1 :=
    (dif_pos (List.mem_singleton.2 rfl)).trans (show (1#32).toInt = 1 from by decide)
  have hw : scatter_S262144_S1_S262143_0_n_0_0.window k 0 = (k 0).val := dif_pos (by decide)
  rw [hs, hw]
  omega

/-- The reference's steps at a position. -/
theorem refSteps_at (f : FVec Ideal S262144 .f32) (p : Fin 262144) : refSteps f (ix1 p) = steps (fun i => f (ix1 i)) p := by
  have hp := p.isLt
  unfold refSteps steps
  by_cases h : p.val = 0
  · rw [if_pos h, scatter_set_miss]
    intro k hk
    have := (written_at k p).1 hk
    omega
  · rw [if_neg h]
    have hk : (p.val - 1) + 1 = p.val := by omega
    refine scatter_set_hit _ _ _ _ _ _ (fun k q => ?_) (ix1 (⟨p.val - 1, by omega⟩ : Fin 262143)) ((written_at _ p).2 hk)
    have e := (written_at k p).1 q
    show f _ - f _ = f _ - f _
    refine congrArg₂ (fun a b => f a - f b) (funext fun a => Fin.ext ?_) (funext fun a => Fin.ext ?_)
    · match a with
      | ⟨0, _⟩ => show 1 + (k 0).val = p.val; omega
    · match a with
      | ⟨0, _⟩ => show 0 + (k 0).val = p.val - 1; omega

/-- The reference's result is the loss of its sorted errors and labels. -/
theorem refLoss_eq (e g : FVec Ideal S262144 .f32) (j : S_.Idx) : refLoss e g j = loss (fun i => e (ix1 i)) (fun i => g (ix1 i)) := by
  unfold refLoss
  rw [vector_sum]
  refine Finset.sum_congr rfl fun i _ => ?_
  show max (e (ix1 i)) (Ideal.ofBits .f32 0x00000000#32) * refSteps (refComplement g) (ix1 i) = _
  rw [Ideal.ofBits_zero_f32, refSteps_at]
  simp only [refComplement_at]

end Cert.Lovasz
-- ==== Proof.Lovasz.Entry.lean ====
/-
What the kernel's one block finds when it starts: the sorted errors and the sorted labels of the arguments, each laid
out as a table of 2048 rows of 128.
-/
module

public import proofs.«01_k».proof.Proof.Lovasz.Reference
public import proofs.«01_k».proof.Proof.Gen.KernelIdeal.Frame
public import Idealize.ShloMosaic.Lib.Pipeline.Value

@[expose] public section

noncomputable section

namespace Cert.Lovasz

open Idealize.ShloMosaic hiding ix0 ix1 ix2 ix3 sum_idx1 sum_idx2 eq_ix1 eq_ix2
open Idealize.ShloMosaic.ValueIdx Idealize.ShloMosaic.TcCoe Idealize.ShloMosaic.StableHlo Cert.KernelIdeal Cert.KernelIdeal.Gen

variable (m : (ℓ : Loc nD τ sig) → Buf (Elt Ideal) ℓ)

/-- A core's first argument, the scores. -/
abbrev scores (c : Dev nD) : FVec Ideal S262144 .f32 := m ((c.tc : Thread nD τ).loc main_arg0)

/-- A core's second argument, the labels. -/
abbrev labels (c : Dev nD) : IVec S262144 32 := m ((c.tc : Thread nD τ).loc main_arg1)

/-- The loss of a vector of errors and a vector of labels. -/
def vectorLoss (v w : FVec Ideal S262144 .f32) : EReal := loss (fun i => v (ix1 i)) (fun i => w (ix1 i))

/-- A vector laid out as a table, row by row. -/
def table (v : FVec Ideal S262144 .f32) : FVec Ideal S2048x128 .f32 := shapeCast S2048x128 v shapeCasts_S262144_S2048x128

/-- The table of errors at the start of the block. -/
theorem entry_errors (c : Dev nD) :
    V m c main_v17 = table (sortedErrors (scores m c) (labels m c)) := by
  unfold V V0 table
  simp only [hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

/-- The table of labels at the start of the block. -/
theorem entry_labels (c : Dev nD) :
    V m c main_v25 = table (sortedLabels (scores m c) (labels m c)) := by
  unfold V V0 table
  simp only [hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

/-- Row `r`, column `l` of a vector laid out as a table is its entry `128 r + l`. -/
theorem table_at (v : FVec Ideal S262144 .f32) (r : Fin 2048) (l : Fin 128) :
    table v (ix2 r l) = v (ix1 (flat r l)) := by
  refine shapeCast_apply v _ _ _ ?_
  rw [Shape.rowMajor_val_one, Shape.rowMajor_val_two]
  rfl

end Cert.Lovasz
-- ==== Proof.Lovasz.Run.lean ====
/-
The kernel's run, read: its one block is the whole of both tables, so the number it stores, and the scalar read from
it afterwards, is the loss of the sorted errors and labels.
-/
module

public import proofs.«01_k».proof.Proof.Lovasz.Entry

@[expose] public section

noncomputable section

namespace Cert.Lovasz

open Idealize.ShloMosaic hiding ix0 ix1 ix2 ix3 sum_idx1 sum_idx2 eq_ix1 eq_ix2
open Idealize.ShloMosaic.ValueIdx Idealize.ShloMosaic.TcCoe Idealize.ShloMosaic.StableHlo Idealize.SL.Sem Cert.KernelIdeal Cert.KernelIdeal.Gen

variable (m : (ℓ : Loc nD τ sig) → Buf (Elt Ideal) ℓ) (ρ : Dev nD → PrngReg)

/-- The loss of a core's arguments. -/
def answer (c : Dev nD) : EReal :=
  vectorLoss (sortedErrors (scores m c) (labels m c)) (sortedLabels (scores m c) (labels m c))

/-- Two zero offsets. -/
theorem offsets_zero : (![0, 0] : Fin 2 → Nat) = fun _ => 0 := by
  ext a
  match a with
  | 0 => rfl
  | 1 => rfl

/-- The block of errors is the whole table. -/
theorem block_errors (c : Dev nD) (t : Fin cfg0.N) : (iblk m c 0 t : FVec Ideal S2048x128 .f32) = V m c main_v17 := by
  have z : (fun a => win0_0.index t a * win0_0.size a) = fun _ => 0 := by
    rcases fin_N0 t with rfl
    decide +kernel
  exact Memref.read_access_unit_zero (Elt Ideal) main_v17 z _ (V m c main_v17)

/-- The block of labels is the whole table. -/
theorem block_labels (c : Dev nD) (t : Fin cfg0.N) : (iblk m c 1 t : FVec Ideal S2048x128 .f32) = V m c main_v25 := by
  have z : (fun a => win0_1.index t a * win0_1.size a) = fun _ => 0 := by
    rcases fin_N0 t with rfl
    decide +kernel
  exact Memref.read_access_unit_zero (Elt Ideal) main_v25 z _ (V m c main_v25)

/-- What the body leaves, as its payload of the two tables. -/
theorem body_leaves (E X : FVec Ideal S2048x128 .f32) :
    out0_2 (F := Ideal) E X = k0_pay1 (F := Ideal) (k0_pay2 (F := Ideal) E) (k0_pay3 (F := Ideal) X) (k0_pay4 (F := Ideal) X) (k0_pay5 (F := Ideal) X)
      (iota .tc S2048x128 32 [1] iota_S2048x128_d1_w32) 0#32 := by
  unfold out0_2
  rw [View.canon_unit_zero offsets_zero, View.ld_unit_zero offsets_zero, View.ld_unit_zero offsets_zero]

/-- What the body leaves, from two tables that hold `e` and the real `g`. -/
theorem body_result (E X : FVec Ideal S2048x128 .f32) (e g : Fin 262144 → EReal) (a : Fin 262144 → ℝ) (hg : ∀ i, g i = (a i : EReal))
    (hE : ∀ r l, E (ix2 r l) = e (flat r l)) (hX : ∀ r l, X (ix2 r l) = g (flat r l)) : out0_2 (F := Ideal) E X = fun _ : S1x1.Idx => loss e g :=
  (body_leaves E X).trans (funext (stored_eq E X e g a hg hE hX))

/-- What the body leaves, from a vector and a real vector laid out as tables. -/
theorem body_vectors (v w : FVec Ideal S262144 .f32) (a : Fin 262144 → ℝ) (hw : ∀ i, w (ix1 i) = (a i : EReal)) :
    out0_2 (F := Ideal) (table v) (table w) = fun _ : S1x1.Idx => vectorLoss v w :=
  body_result (table v) (table w) (fun i => v (ix1 i)) (fun i => w (ix1 i)) a hw (table_at v) (table_at w)

/-- The number the block leaves, from the two tables of the arguments. -/
theorem block_result (c : Dev nD) (t : Fin cfg0.N) : out0_2 (iblk m c 0 t) (iblk m c 1 t) = fun _ : S1x1.Idx => answer m c := by
  obtain ⟨a, ha⟩ := sortedLabels_real (scores m c) (labels m c)
  rw [block_errors, block_labels, entry_errors, entry_labels]
  have h := body_vectors (sortedErrors (scores m c) (labels m c)) (sortedLabels (scores m c) (labels m c)) a ha
  unfold answer
  exact h

/-- What is written back is the loss. -/
theorem written_back (c : Dev nD) (t : Fin cfg0.N) :
    (dats m 0 c).flushed 2 t = (win0_2.blk t).view.read (Elt Ideal) (fun _ : S1x1.Idx => answer m c) := by
  show (cfg0.win 2).cut (grid0.coords t) ((dats m 0 c).after 2 t) = _
  rw [after0_2, block_result]
  generalize answer m c = b
  rcases fin_N0 t with rfl
  rfl

/-- The one block covers the result. -/
theorem covered (i : S1x1.Idx) : ∃ t : Fin cfg0.N, (cfg0.win 2).flush t = true ∧ i ∈ ((cfg0.win 2).blk t).view.set := by
  refine ⟨t0_0, flush0_2 _, ?_⟩
  show i ∈ ((View.whole main_v26).slice (win0_2.rect t0_0)).set
  rw [View.set_slice_whole, Rect.mem_set_unit]
  revert i
  decide +kernel

/-- The result array ends at the loss. -/
theorem result_array (c : Dev nD) : (dats m 0 c).arrAt 2 cfg0.N = fun _ : S1x1.Idx => answer m c :=
  (dats m 0 c).arrAt_eq_of_cover 2 (fun _ : S1x1.Idx => answer m c) (fun t _ => written_back m c t) covered

/-- The scalar read from it is the loss. -/
theorem result_scalar (c : Dev nD) :
    Pipeline.afterTail₀ cfgs (dats m) 0 (V0 m) [hostOps1] c main_v27 = fun _ : S_.Idx => answer m c := by
  unfold Pipeline.afterTail₀
  simp only [hostOps1, List.flatten_cons, List.flatten_nil, List.append_nil, List.cons_append, List.nil_append]
  after_results_simp
  funext j
  have e := Pipeline.withArrays_arr (cfgs 0).spec launch0.win.arr_inj c (V0 m c) (fun w => (dats m 0 c).arrAt w (cfgs 0).N) 2
  exact (congrFun e _).trans (congrFun (result_array m c) _)

/-- The kernel's run: the result ends at the loss, the arguments as they were. -/
theorem kernel_run : θ_run defs (onTc (τ := τ) (main (F := Ideal))) ⟨m, fun _ => 0, ρ⟩ fun r => ∀ c : Dev nD,
      r.2.mem ((c.tc : Thread nD τ).loc main_v27) = (fun _ : S_.Idx => answer m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v27 (Pipeline.mem_restRefs_of main_v27 (by decide) (by decide))).trans (result_scalar m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Lovasz
-- ==== Proof.Lovasz.Match.lean ====
/-
The reference's result from the arguments the kernel was given is the number the kernel leaves.
-/
module

public import proofs.«01_k».proof.Proof.Lovasz.Run

@[expose] public section

noncomputable section

namespace Cert.Lovasz

open Idealize.ShloMosaic hiding ix0 ix1 ix2 ix3 sum_idx1 sum_idx2 eq_ix1 eq_ix2

/-- The reference's last sum is the loss of its two vectors, everywhere. -/
theorem refLoss_const (e g : FVec Ideal Cert.ReferenceIdeal.S262144 .f32) : refLoss e g = fun _ : Cert.ReferenceIdeal.S_.Idx => vectorLoss e g :=
  funext fun j => (refLoss_eq e g j).trans (by rw [vectorLoss])

/-- From arguments that agree, the reference's result is the kernel's. -/
theorem reference_answer
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h₀ : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h₁ : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v43 (F := Ideal) m' c = fun _ : Cert.KernelIdeal.S_.Idx => answer m c := by
  rw [reference_form, h₀, h₁, refLoss_const]
  unfold answer
  rfl

end Cert.Lovasz
-- ==== Proof.lean ====
/-
The five claims about the binary Lovasz hinge loss: the kernel, the kernel at exact values and the reference each run
and leave their arguments as they were, the exact kernel is the kernel's own text, and at exact values the kernel and
the reference end with the same number.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Lovasz.Match
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs and leaves its arguments and counters as they were. -/
theorem frame_kernel : Cert.quiescent_Kernel := fun m ρ _ => Cert.Kernel.Gen.frame m ρ

/-- So does the kernel at exact values. -/
theorem frame_kernel_exact : Cert.quiescent_KernelIdeal := fun m ρ _ => Cert.KernelIdeal.Gen.frame m ρ

/-- So does the reference at exact values. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel at exact values is the kernel's own text: nothing was rewritten. -/
theorem preserved : Cert.preserves_Kernel_KernelIdeal := trivial

/-- At exact values, from the same arguments, the kernel and the reference end with the same number. -/
theorem same_number : Cert.algebraic_KernelIdeal_ReferenceIdeal := by
  intro m ρ m' ρ' _ hagree
  refine ⟨fun c => fun _ : Cert.KernelIdeal.S_.Idx => Cert.Lovasz.answer m c, Cert.Lovasz.kernel_run m ρ, ?_⟩
  exact (θ_run Cert.ReferenceIdeal.defs _ _).mono
    (fun _ h c => ⟨(h c).1.trans (Cert.Lovasz.reference_answer m m' c (hagree c).1 (hagree c).2), (h c).2⟩)
    (Cert.ReferenceIdeal.Value.run (F := Ideal) m' ρ')

/-- All five claims. -/
theorem claim : Cert.Claim :=
  ⟨Cert.Kernel.Gen.facts, Cert.KernelIdeal.Gen.facts, Cert.ReferenceIdeal.Gen.facts, frame_kernel, frame_kernel_exact, frame_reference, preserved, same_number⟩

end Cert.Proof

end
